-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S2097152 : Shape := ⟨1, ![2097152]⟩
abbrev S8192 : Shape := ⟨1, ![8192]⟩
abbrev S_ : Shape := ⟨0, ![]⟩
abbrev S16 : Shape := ⟨1, ![16]⟩
abbrev S2048x128 : Shape := ⟨2, ![2048, 128]⟩
abbrev S128 : Shape := ⟨1, ![128]⟩
abbrev S1x128 : Shape := ⟨2, ![1, 128]⟩

abbrev nBuf : Table → Nat
  | .hbm => 4
  | .local .tc .vmem => 2
  | .local .scVector .vmem => 1
  | _ => 0

abbrev bufTy : (tb : Table) → Fin (nBuf tb) → BufTy
  | .hbm, ⟨0, _⟩ => ⟨S16384x128, .f32⟩
  | .hbm, ⟨1, _⟩ => ⟨S2097152, .f32⟩
  | .hbm, ⟨2, _⟩ => ⟨S16384x128, .f32⟩
  | .hbm, ⟨3, _⟩ => ⟨S16384x128, .f32⟩
  | .local .tc .vmem, ⟨0, _⟩ => ⟨S2048x128, .f32⟩
  | .local .tc .vmem, ⟨1, _⟩ => ⟨S2048x128, .f32⟩
  | .local .scVector .vmem, ⟨0, _⟩ => ⟨S8192, .f32⟩
  | _, _ => ⟨S16384x128, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => true
  | ⟨2, _⟩ => true
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc0_scratch0 : Ref sig .scVector := ⟨.vmem, 0, rfl⟩
abbrev cc1_sem0_0 : DmaSem sig := 1
abbrev cc1_sem0_1 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c8_i32 : BitVec 32 := 8#32
  let v0 : BitVec 32 := Scalar.addi c0_i32_0 c8_i32
  let c1_i32 : BitVec 32 := 1#32
  ⟨c0_i32_0, v0, c1_i32⟩
@[reducible] def k0_t2_loop : Scf.Loop 32 :=
  let c0_i32_3 : BitVec 32 := 0#32
  let c64_i32 : BitVec 32 := 64#32
  let v4 : BitVec 32 := Scalar.addi c0_i32_3 c64_i32
  let c1_i32_4 : BitVec 32 := 1#32
  ⟨c0_i32_3, v4, c1_i32_4⟩
def k0_off1 (k0_t2 : Fin k0_t2_loop.trips) (c0_i32_7 : BitVec 32) : Fin 1 → Nat :=
  let c0_i32_3 : BitVec 32 := 0#32
  let c1_i32_4 : BitVec 32 := 1#32
  let arg5 : BitVec 32 := Scf.iv c0_i32_3 c1_i32_4 k0_t2
  let c128_i32 : BitVec 32 := 128#32
  let v48 : BitVec 32 := Scalar.muli arg5 c128_i32
  let v49 : BitVec 32 := Scalar.addi v48 c0_i32_7
  let v50 : Index := Scalar.indexCast v49
  ![v50.toNat]
def k0_off2 (i : grid0.Coords) (c0_i32_6 : BitVec 32) : Fin 1 → Nat :=
  let arg1 : BitVec 32 := BitVec.ofNat 32 (i 1).val
  let c2_i32 : BitVec 32 := 2#32
  let v5 : BitVec 32 := Scalar.muli arg1 c2_i32
  let arg0 : BitVec 32 := BitVec.ofNat 32 (i 0).val
  let v6 : BitVec 32 := Scalar.addi v5 arg0
  let c65536_i32 : BitVec 32 := 65536#32
  let v7 : BitVec 32 := Scalar.muli v6 c65536_i32
  let v8 : BitVec 32 := Scalar.addi v7 c0_i32_6
  ![v8.toNat]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x128 : Shape := ⟨2, ![16384, 128]⟩
abbrev S8 : Shape := ⟨1, ![8]⟩
abbrev S_ : Shape := ⟨0, ![]⟩
abbrev S8x1x1 : Shape := ⟨3, ![8, 1, 1]⟩
abbrev S8x16384x128 : Shape := ⟨3, ![8, 16384, 128]⟩
abbrev S1x16384x128 : Shape := ⟨3, ![1, 16384, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S8, .f32⟩
  | .hbm, ⟨2, _⟩ => ⟨S_, .i32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .i1⟩
  | .hbm, ⟨9, _⟩ => ⟨S_, .f32⟩
  | .hbm, ⟨10, _⟩ => ⟨S8, .f32⟩
  | .hbm, ⟨11, _⟩ => ⟨S8, .i1⟩
  | .hbm, ⟨12, _⟩ => ⟨S_, .f32⟩
  | .hbm, ⟨13, _⟩ => ⟨S_, .i1⟩
  | .hbm, ⟨14, _⟩ => ⟨S8, .i1⟩
  | .hbm, ⟨15, _⟩ => ⟨S8, .i1⟩
  | .hbm, ⟨16, _⟩ => ⟨S8, .i1⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8x1x1, .f32⟩
  | .hbm, ⟨21, _⟩ => ⟨S8x16384x128, .f32⟩
  | .hbm, ⟨22, _⟩ => ⟨S1x16384x128, .f32⟩
  | .hbm, ⟨23, _⟩ => ⟨S16384x128, .f32⟩
  | .hbm, ⟨24, _⟩ => ⟨S_, .f32⟩
  | .hbm, ⟨25, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== Proof.Setup.lean ====
/-
  What every module of this proof starts from: the program as the launch theorem reads it, the ghost state, and the
  ownership of the flat array of counts (`main_v0`) cut the way the kernel cuts it. Each of the 2 x 16 subcores writes
  eight runs of 8192 consecutive words; run `w` is `blk w`, the 256 runs are disjoint and fill the array, and subcore
  `s` of SparseCore `c` writes the runs `16 s + 8 c + r` for `r < 8`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Batch
public import Idealize.ShloMosaic.Lib.Ring
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Count

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the handshakes' rounds, the TensorCore pipeline's rounds, the transfers' counters -/

abbrev UH : Type := URounds (GSem nD τ sig) ℕ
abbrev UP : Type := URounds (GSem nD τ sig) Unit
abbrev UU : Type := UH × UP × Counters

local notation "𝕄" => MT nD τ sig (HIx 1) (Elt F) ℕ UU ℕ

/-- The handshakes' component. -/
abbrev EH : Emb UH (MT nD τ sig (HIx 1) (Elt F) ℕ UU ℕ) := embL
/-- The pipeline's component. -/
abbrev EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ 𝕄) := by
  unfold EP embR; infer_instance

/-! ## The buffers -/

abbrev aLoc (d : Dev nD) : Loc nD τ sig := (SparseCore.T d).loc main_arg0
abbrev cLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The count every element ends at: the integer 4 as a float. -/
def four : F .f32 := Scalar.sitofp .f32 4#32
/-- The first row of the pattern: the integer 0 as a float. -/
def zero : F .f32 := FloatOps.sitofp .f32 0#32

/-! ## The runs of 8192 words -/

/-- Run `w`: the words from `8192 w` on, 8192 of them. -/
def blk (w : ℕ) : Finset S2097152.Idx := Finset.univ.filter fun x => (x 0).val / 8192 = w

theorem mem_blk {w : ℕ} {x : S2097152.Idx} : x ∈ blk w ↔ (x 0).val / 8192 = w := by
  simp [blk]

/-- The run subcore `s` of SparseCore `c` writes `r`-th. -/
abbrev run (c s r : ℕ) : ℕ := 16 * s + 8 * c + r

/-- Run `run c s r` of device `d`'s counts, at contents `f`. -/
abbrev runPts (d : Dev nD) (f : Buf (Elt F) (cLoc d)) (c s r : ℕ) : sProp 𝕄 := cLoc d ↦[blk (run c s r)]{fullShare} f

/-- What one subcore writes: its eight runs. -/
abbrev tilePts (d : Dev nD) (f : Buf (Elt F) (cLoc d)) (c s : ℕ) : sProp 𝕄 :=
  bigSep Finset.univ fun r : Fin 8 => runPts d f c s r.val

/-- What one SparseCore writes: its sixteen subcores' shares. -/
abbrev corePts (d : Dev nD) (f : Buf (Elt F) (cLoc d)) (c : ℕ) : sProp 𝕄 :=
  bigSep Finset.univ fun s : Fin 16 => tilePts d f c s.val

/-- The whole array is the two SparseCores' shares of it. -/
theorem cPts_cores (d : Dev nD) (f : Buf (Elt F) (cLoc d)) :
    (cLoc d ↦{fullShare} f : sProp 𝕄) = bigSep Finset.univ fun c : Fin 2 => corePts d f c.val := by
  have hu : (Finset.univ : Finset (Fin 2 × Fin 16 × Fin 8)).biUnion (fun t => blk (run t.1.val t.2.1.val t.2.2.val)) = Finset.univ := by
    ext x
    simp only [Finset.mem_biUnion, Finset.mem_univ, true_and, iff_true]
    have hx : (x 0).val < 2097152 := (x 0).isLt
    refine ⟨(⟨(x 0).val / 65536 % 2, by omega⟩, ⟨(x 0).val / 131072, by omega⟩, ⟨(x 0).val / 8192 % 8, by omega⟩), ?_⟩
    rw [mem_blk]
    simp only [run]
    omega
  have hd : ∀ t ∈ (Finset.univ : Finset (Fin 2 × Fin 16 × Fin 8)), ∀ t' ∈ (Finset.univ : Finset (Fin 2 × Fin 16 × Fin 8)), t ≠ t' →
      Disjoint (blk (run t.1.val t.2.1.val t.2.2.val)) (blk (run t'.1.val t'.2.1.val t'.2.2.val)) := by
    rintro ⟨⟨c, hc⟩, ⟨s, hs⟩, ⟨r, hr⟩⟩ - ⟨⟨c', hc'⟩, ⟨s', hs'⟩, ⟨r', hr'⟩⟩ - hne
    rw [Finset.disjoint_left]
    intro x h h'
    rw [mem_blk] at h h'
    simp only [run] at h h'
    apply hne
    have h1 : c = c' := by omega
    have h2 : s = s' := by omega
    have h3 : r = r' := by omega
    subst h1 h2 h3
    rfl
  have h := pointsTo_biUnion (Val := Elt F) (Ix := HIx 1) (Name := ℕ) (U := UU) (Lvl := ℕ) (ℓ := cLoc d) (q := fullShare) (f := f)
    (Finset.univ : Finset (Fin 2 × Fin 16 × Fin 8)) (fun t => blk (run t.1.val t.2.1.val t.2.2.val)) hd
  rw [hu] at h
  rw [h, bigSep_univ_prod]
  refine bigSep_congr fun c _ => ?_
  rw [bigSep_univ_prod]

/-! ## What the call's handshakes carry -/

variable (m : (ℓ : Loc nD τ sig) → Buf (Elt F) ℓ)

/-- The counts as they end: every word the count. -/
def counts (d : Dev nD) : Buf (Elt F) (cLoc d) := fun _ => four (F := F)

/-- The call hands each SparseCore its share of the counts at their launch contents, each subcore its eight runs; they
    come back holding the count. -/
def P : (K (F := F)).Pay (nD := nD) (Val := Elt F) (Name := ℕ) (U := UU) where
  st := fun q d c => match q with | 0 => corePts d (m (cLoc d)) c.val
  dn := fun q d c => match q with | 0 => corePts d (counts d) c.val
  go := fun q d c i => match q with | 0 => tilePts d (m (cLoc d)) c.val i.val
  td := fun q d c i => match q with | 0 => tilePts d (counts d) c.val i.val
  x := fun _ _ => iprop(emp)

instance P_storable : (P (F := F) m).IsStorable where
  st q d c := match q with | 0 => (inferInstance : BI.Storable (upEmb : UEmb _ 𝕄) (corePts d (m (cLoc d)) c.val))
  dn q d c := match q with | 0 => (inferInstance : BI.Storable (upEmb : UEmb _ 𝕄) (corePts d (counts d) c.val))
  go q d c i := match q with | 0 => (inferInstance : BI.Storable (upEmb : UEmb _ 𝕄) (tilePts d (m (cLoc d)) c.val i.val))
  td q d c i := match q with | 0 => (inferInstance : BI.Storable (upEmb : UEmb _ 𝕄) (tilePts d (counts d) c.val i.val))

/-- A SparseCore's share is its subcores' shares, going out and coming back. -/
theorem vecSplit : (K (F := F)).VecSplit' (P m) 0 := by
  intro d c
  show corePts d (m (cLoc d)) c.val ⊢ |={Set.univ}=> iprop(
      (bigSep Finset.univ fun i : Fin 16 => tilePts d (m (cLoc d)) c.val i.val)
      ∗ ((bigSep Finset.univ fun i : Fin 16 => tilePts d (counts d) c.val i.val) -∗ corePts d (counts d) c.val))
  iintro H; imodintro
  isplitl [H]; · iexact H
  iintro H; iexact H

end Cert.Proof.Count

end
-- ==== Proof.Tile.lean ====
/-
  One subcore's task: it sums the pattern `j mod 2` over `j < 8` on the scalar unit (4), fills its scratch row with that
  number, sixteen words at a time, and copies the row out to its eight runs of the counts, the eight copies on one
  semaphore and in flight at once.
-/
module

public import proofs.«01_k».proof.Proof.Setup

@[expose] public section

noncomputable section

namespace Cert.Proof.Count

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "cV" => (Memref.whole main_v0_scv : Memref sig Kind.scVector Space.hbm S2097152 EltTy.f32)
local notation "sV" => (Memref.whole cc0_scratch0 : Memref sig Kind.scVector Space.vmem S8192 EltTy.f32)

/-! ## The subcore's place and its buffers -/

variable (d : Dev nD) (L : grid0.Coords)

/-- The SparseCore and the subcore the task's coordinates name, and its thread. -/
abbrev coreOf : Fin τ.nSC := (L 0).castLE hcore0
abbrev subOf : Fin τ.nSub := (L 1).castLE hsub0
abbrev thr : Thread nD τ := V d (coreOf L) (subOf L)

/-- The scratch row of the task's subcore. -/
abbrev sLoc : Loc nD τ sig := (thr d L).loc cc0_scratch0

/-- The scratch row with every word below `n` at the count. -/
def filled (n : ℕ) : sProp 𝕄 :=
  iprop(∃ f : Buf (Elt F) (sLoc d L), ⌜∀ x : S8192.Idx, (x 0).val < n → f x = four (F := F)⌝ ∗ (sV).view.loc (thr d L) ↦{fullShare} f)

/-! ## The sum of the pattern -/

/-- What the scalar loop carries before trip `k`: the number of odd indices below `k`. -/
theorem sum_step : ∀ k : Fin k0_t1_loop.trips,
    Scalar.addi (BitVec.ofNat 32 (k.val / 2)) (Scalar.remsi (Scf.iv 0#32 1#32 k) 2#32) = BitVec.ofNat 32 ((k.val + 1) / 2) := by
  decide

/-- One trip of the summing loop. -/
theorem sum_trip (k : Fin k0_t1_loop.trips) (acc : BitVec 32) :
    (iprop(⌜acc = BitVec.ofNat 32 (k.val / 2)⌝) : sProp 𝕄)
      ⊢ wp frame (wpE (defs₀ (F := F)) 𝒱₀ (thr d L) none) Set.univ
          (k0_t1_body (F := F) L cV (Memref.isWhole_whole _) sV (Memref.isWhole_whole _) cc0_scratch1 k acc)
          fun acc' => iprop(⌜acc' = BitVec.ofNat 32 ((k.val + 1) / 2)⌝) := by
  unfold k0_t1_body
  iintro %h
  subst h
  sl_exec
  sl_step
  ipureintro
  exact sum_step k

/-- Stores that all hold one number leave that number wherever one of them falls, and elsewhere the old contents. -/
theorem writes_const {b : Ref sig .scVector} (f : b.ty.Contents (Elt F)) (G : Elt F b.ty.elt)
    (W : List (View.Piece (Elt F) b.ty.shape b.ty.elt)) (hW : ∀ p ∈ W, ∀ x, p.2 x = G) (x : b.ty.shape.Idx)
    (hx : (∃ p ∈ W, x ∈ p.1.set) ∨ f x = G) : (View.whole b).writes (Elt F) f W x = G := by
  by_cases hc : ∃ p ∈ W, x ∈ p.1.set
  · exact View.read_writes_apply_of_pieces (View.whole b) f (fun _ => G) W (fun p hp x => hW p hp x) x hc
  · have h := View.read_writes_apply_of_forall_not_mem (View.whole b) f x W fun p hp hm => hc ⟨p, hp, hm⟩
    exact h.trans (hx.resolve_left hc)

/-- Strip `r` of trip `k`: the sixteen words from `128 k + 16 r` on. -/
theorem mem_strip (k : Fin k0_t2_loop.trips) (r : Fin 8) (x : S8192.Idx)
    (h : 128 * k.val + 16 * r.val ≤ (x 0).val ∧ (x 0).val < 128 * k.val + 16 * r.val + 16) :
    x ∈ (Rect.unit (s := S8192) (k0_off1 k (BitVec.ofNat 32 (16 * r.val))) S16.size (k0_off1_inb k r)).set := by
  rw [Rect.mem_set_unit]
  intro a
  rw [k0_off1_eq]
  match a with
  | 0 => exact h

/-- One trip of the filling loop: eight strips, 128 words more. -/
theorem fill_trip (k : Fin k0_t2_loop.trips) :
    filled d L (128 * k.val)
      ⊢ wp frame (wpE (defs₀ (F := F)) 𝒱₀ (thr d L) none) Set.univ
          (k0_t2_body (F := F) L cV (Memref.isWhole_whole _) sV (Memref.isWhole_whole _) cc0_scratch1 4#32 k ⟨⟩)
          fun _ => filled (F := F) d L (128 * (k.val + 1)) := by
  unfold k0_t2_body filled
  iintro ⟨%f, %hf, Hs⟩
  sl_exec
  sl_step
  iexists _
  isplitr
  swap; · iexact Hs
  ipureintro
  intro x hx
  refine writes_const (b := cc0_scratch0) f (four (F := F)) _ ?_ x ?_
  · simp only [List.mem_cons, List.not_mem_nil, or_false]
    rintro p (rfl | rfl | rfl | rfl | rfl | rfl | rfl | rfl) y <;> rfl
  · by_cases hlt : (x 0).val < 128 * k.val
    · exact .inr (hf x hlt)
    · left
      have hr : ∃ r : Fin 8, 128 * k.val + 16 * r.val ≤ (x 0).val ∧ (x 0).val < 128 * k.val + 16 * r.val + 16 :=
        ⟨⟨((x 0).val - 128 * k.val) / 16, by omega⟩, by dsimp only; omega, by dsimp only; omega⟩
      obtain ⟨r, hr⟩ := hr
      have hm := mem_strip k r x hr
      simp only [List.exists_mem_cons_iff, List.not_mem_nil, false_and, exists_false, or_false]
      obtain ⟨r, hr8⟩ := r
      clear hr hlt hx hf
      interval_cases r
      · exact .inr (.inr (.inr (.inr (.inr (.inr (.inr hm))))))
      · exact .inr (.inr (.inr (.inr (.inr (.inr (.inl hm))))))
      · exact .inr (.inr (.inr (.inr (.inr (.inl hm)))))
      · exact .inr (.inr (.inr (.inr (.inl hm))))
      · exact .inr (.inr (.inr (.inl hm)))
      · exact .inr (.inr (.inl hm))
      · exact .inr (.inl hm)
      · exact .inl hm

/-- The scratch row as it is copied out: the count everywhere. -/
def row : Buf (Elt F) (sLoc d L) := fun _ => four (F := F)

theorem filled_all : (filled d L 8192 : sProp 𝕄) ⊢ (sV).view.loc (thr d L) ↦{fullShare} row (F := F) d L := by
  unfold filled
  iintro ⟨%f, %hf, Hs⟩
  rw [show f = row (F := F) d L from funext fun x => hf x (x 0).isLt]
  iexact Hs

/-! ## The eight copies -/

/-- Run `r` of the task, as the task addresses it. -/
abbrev runK (r : Fin 8) : Memref sig .scVector .hbm S8192 .f32 :=
  (cV).slice (Rect.unit (s := S2097152) (k0_off2 L (BitVec.ofNat 32 (8192 * r.val))) S8192.size (k0_off2_inb L r)) (fun _ => rfl)

theorem set_runK (r : Fin 8) : (runK L r).view.set = blk (run (L 0).val (L 1).val r.val) := by
  ext x
  rw [show (runK L r).view.set = (Rect.unit (s := S2097152) (k0_off2 L (BitVec.ofNat 32 (8192 * r.val))) S8192.size (k0_off2_inb L r)).set from
    (View.set_slice _ _).trans Finset.map_refl, Rect.mem_set_unit, mem_blk]
  have h : (∀ a, k0_off2 L (BitVec.ofNat 32 (8192 * r.val)) a ≤ (x a).val
      ∧ (x a).val < k0_off2 L (BitVec.ofNat 32 (8192 * r.val)) a + S8192.size a)
      ↔ (131072 * (L 1).val + 65536 * (L 0).val + 8192 * r.val ≤ (x 0).val
        ∧ (x 0).val < 131072 * (L 1).val + 65536 * (L 0).val + 8192 * r.val + 8192) := by
    rw [k0_off2_eq]
    exact ⟨fun h => h 0, fun h a => match a with | 0 => h⟩
  rw [h]
  simp only [run]
  omega

/-- The scratch row is read by the eight copies at once, each holding a share: copy `n` takes half of what the copies
    before it left. -/
def left : ℕ → PosShare TreeShare
  | 0 => fullShare
  | n + 1 => (left n).right
def taken (n : ℕ) : PosShare TreeShare := (left n).left

theorem left_split {ℓ : Loc nD τ sig} (I : Finset (Idx ℓ)) (f : Buf (Elt F) ℓ) (n : ℕ) :
    (ℓ ↦[I]{left n} f : sProp 𝕄) = iprop((ℓ ↦[I]{taken n} f) ∗ ℓ ↦[I]{left (n + 1)} f) :=
  have h := pointsTo_share (Val := Elt F) (Ix := HIx 1) (Name := ℕ) (U := UU) (Lvl := ℕ) (ℓ := ℓ) (I := I) (f := f)
    (PosShare.mem_left_op_right (left n))
  BI.Entails.antisymm h.1 h.2

/-- What the copies took and what is left is the whole. -/
theorem left_join {ℓ : Loc nD τ sig} (I : Finset (Idx ℓ)) (f : Buf (Elt F) ℓ) (n : ℕ) :
    iprop((bigSep Finset.univ fun r : Fin n => (ℓ ↦[I]{taken r.val} f : sProp 𝕄)) ∗ ℓ ↦[I]{left n} f) ⊢ (ℓ ↦[I]{fullShare} f : sProp 𝕄) := by
  rw [show (bigSep Finset.univ fun r : Fin n => (ℓ ↦[I]{taken r.val} f : sProp 𝕄)) = bigSep (Finset.range n) fun r => ℓ ↦[I]{taken r} f from ?_]
  · induction n with
    | zero => rw [Finset.range_zero, bigSep_empty]; iintro ⟨-, H⟩; iexact H
    | succ n ih =>
      rw [Finset.range_add_one]
      rw [show (bigSep (insert n (Finset.range n)) fun r => (ℓ ↦[I]{taken r} f : sProp 𝕄))
          = iprop((ℓ ↦[I]{taken n} f) ∗ bigSep (Finset.range n) fun r => ℓ ↦[I]{taken r} f) from bigSep_insert (by simp)]
      iintro ⟨⟨Ht, Hr⟩, Hl⟩
      iapply ih
      rw [left_split I f n]
      isplitl [Hr]; · iexact Hr
      isplitl [Ht] <;> iassumption
  · exact Ring.bigSep_fin_eq_range n _ _ fun _ _ => rfl

/-- What copy `r` hands back: its run at the count, and its share of the row. -/
def back (r : Fin 8) : sProp 𝕄 :=
  iprop(runPts (F := F) d (counts d) (L 0).val (L 1).val r.val ∗ (sV).view.loc (thr d L) ↦[(sV).view.set]{taken r.val} row (F := F) d L)

instance back_storable (r : Fin 8) : BI.Storable (upEmb : UEmb _ 𝕄) (back (F := F) d L r) := by
  unfold back; infer_instance

/-- The units one copy completes. -/
abbrev units : ℕ := (runK L 0).view.dmaCredit

abbrev flight (n u : ℕ) : sProp 𝕄 :=
  Transfers.Batch countersEmb (thr d L) (SemLoc.dma cc0_scratch1.sem) (default : HIx 1) (units L) (back (F := F) d L) n u

/-- Starting copy `r`. -/
theorem issue (r : Fin 8) (f : Buf (Elt F) (cLoc d)) {hsrc : (sV).view.WordExact} {hdst : (runK L r).view.WordExact}
    {hsem : DmaTarget.Typed (nD := nD) Space.vmem (SemLoc.dma cc0_scratch1.sem) (.here (p := (thr d L).2) (runK L r))}
    {α : Type} {Q : α → sProp (MT nD τ sig (HIx 1) (Elt F) ℕ UU ℕ)} {k : PUnit → Prog (TpuEff nD τ sig (Elt F) Λ₀ (thr d L).2) α} :
    iprop(((sV).view.loc (thr d L) ↦[(sV).view.set]{left r.val} row (F := F) d L)
        ∗ runPts d f (L 0).val (L 1).val r.val ∗ flight (F := F) d L r.val 0)
      ⊢ iprop((iprop(((sV).view.loc (thr d L) ↦[(sV).view.set]{left (r.val + 1)} row (F := F) d L) ∗ flight (F := F) d L (r.val + 1) 0)
          -∗ wp frame (wpE (defs₀ (F := F)) 𝒱₀ (thr d L) none) Set.univ (k ⟨⟩) Q)
        -∗ wp frame (wpE (defs₀ (F := F)) 𝒱₀ (thr d L) none) Set.univ
            (.op (.enqueueDma sV (.here (p := (thr d L).2) (runK L r)) (.dma cc0_scratch1.sem) hsrc hdst hsem) k) Q) := by
  rw [left_split]
  iintro ⟨⟨Ht, Hl⟩, Hr, HB⟩ Hk
  iapply (Transfers.wp_dmaBatch countersEmb 𝒱₀ (thr d L) none (default : HIx 1) (units L) (via := _) (D := back (F := F) d L)
    (src := sV) (dst := runK L r) (Sd := blk (run (L 0).val (L 1).val r.val)) (fd := f) (fs := row (F := F) d L) (q := taken r.val)
    rfl (le_of_eq (set_runK L r)) r.isLt (Nat.zero_le _) ?_) $$ [Ht Hr HB]
  · unfold back
    iintro ⟨Hr, Ht⟩
    isplitl [Hr]
    · iapply (Entails.of_eq (pointsTo_congr (Val := Elt F) fun x hx => ?_)) $$ Hr
      rw [← set_runK] at hx
      obtain ⟨y, -, rfl⟩ := Finset.mem_map.mp hx
      exact View.write_emb_of_mem (v := (runK L r).view) f _ (Finset.mem_univ y)
    · iexact Ht
  · isplitl [Ht]; · iexact Ht
    isplitl [Hr]; · iexact Hr
    iexact HB
  iintro HB
  iapply Hk
  isplitl [Hl] <;> iassumption

theorem units_pos : 0 < units L := by
  have h : units L = (cV).view.ref.dmaCredit S8192 EltTy.f32 := rfl
  rw [h]
  decide

/-- A wait before the last: one copy's units fewer to come. -/
theorem await (r : Fin 8) (j : ℕ) (hj : j < 7) {hsrc : (sV).view.WordExact} {hdst : (runK L r).view.WordExact}
    {O : CellTallies nD τ sig (HIx 1)} {W : Waits sig (HIx 1)}
    {α : Type} {Q : α → sProp (MT nD τ sig (HIx 1) (Elt F) ℕ UU ℕ)} {k : PUnit → Prog (TpuEff nD τ sig (Elt F) Λ₀ (thr d L).2) α} :
    iprop(flight (F := F) d L 8 (units L * j) ∗ owes (thr d L) O W ∗ MayWait (thr d L) (SemLoc.dma cc0_scratch1.sem) (default : HIx 1) O)
      ⊢ iprop((iprop(flight (F := F) d L 8 (units L * (j + 1)) ∗ owes (thr d L) O (insert (SemLoc.dma cc0_scratch1.sem, (default : HIx 1)) W))
          -∗ wp frame (wpE (defs₀ (F := F)) 𝒱₀ (thr d L) none) Set.univ (k ⟨⟩) Q)
        -∗ wp frame (wpE (defs₀ (F := F)) 𝒱₀ (thr d L) none) Set.univ
            (.op (.waitDma2 cc0_scratch1.sem sV (runK L r) hsrc hdst) k) Q) :=
  Transfers.wp_waitBatchO countersEmb 𝒱₀ (thr d L) none (default : HIx 1) (show (runK L r).view.dmaCredit = units L from rfl)
    (show units L * j + units L < units L * 8 from by rw [← Nat.mul_succ]; exact Nat.mul_lt_mul_of_pos_left (by omega) (units_pos L))

/-- The last wait: everything the copies hand back, and the semaphore at zero. -/
theorem await_last (r : Fin 8) {hsrc : (sV).view.WordExact} {hdst : (runK L r).view.WordExact}
    {O : CellTallies nD τ sig (HIx 1)} {W : Waits sig (HIx 1)}
    {α : Type} {Q : α → sProp (MT nD τ sig (HIx 1) (Elt F) ℕ UU ℕ)} {k : PUnit → Prog (TpuEff nD τ sig (Elt F) Λ₀ (thr d L).2) α} :
    iprop(flight (F := F) d L 8 (units L * 7) ∗ owes (thr d L) O W ∗ MayWait (thr d L) (SemLoc.dma cc0_scratch1.sem) (default : HIx 1) O)
      ⊢ iprop((iprop(bigSep Finset.univ (back (F := F) d L) ∗ semVal (thr d L, SemLoc.dma cc0_scratch1.sem) 0
              ∗ owes (thr d L) O (insert (SemLoc.dma cc0_scratch1.sem, (default : HIx 1)) W))
          -∗ wp frame (wpE (defs₀ (F := F)) 𝒱₀ (thr d L) none) Set.univ (k ⟨⟩) Q)
        -∗ wp frame (wpE (defs₀ (F := F)) 𝒱₀ (thr d L) none) Set.univ
            (.op (.waitDma2 cc0_scratch1.sem sV (runK L r) hsrc hdst) k) Q) :=
  Transfers.wp_waitBatchLastO countersEmb 𝒱₀ (thr d L) none (default : HIx 1) (show (runK L r).view.dmaCredit = units L from rfl)
    (units_pos L) (show units L * 7 + units L = units L * 8 from (Nat.mul_succ _ _).symm)

/-- All that the copies hand back: the task's runs at the count and the scratch row whole. -/
theorem back_all :
    iprop((bigSep Finset.univ (back (F := F) d L)) ∗ (sV).view.loc (thr d L) ↦[(sV).view.set]{left 8} row (F := F) d L)
      ⊢ iprop(tilePts d (counts d) (L 0).val (L 1).val ∗ (sV).view.loc (thr d L) ↦[(sV).view.set]{fullShare} row (F := F) d L) := by
  unfold back
  rw [bigSep_sep']
  iintro ⟨⟨Hr, Ht⟩, Hl⟩
  isplitl [Hr]; · iexact Hr
  iapply (left_join (sV).view.set (row (F := F) d L) 8)
  isplitl [Ht] <;> iassumption

/-! ## The task -/

abbrev sCell (c : Fin τ.nSC) (i : Fin τ.nSub) : GSem nD τ sig := (V d c i, .dma cc0_scratch1.sem)

/-- The task's semaphore is among its subcore's own; -/
theorem ownSems0_V :
    (ownSems0 (thr d L) : sProp 𝕄)
      = iprop(semVal (sCell d (coreOf L) (subOf L)) 0
          ∗ bigSep ((ownCells (thr d L)).erase (sCell d (coreOf L) (subOf L))) fun g => semVal g 0) := by
  unfold SparseCore.Cfg.ownSems0
  rw [SparseCore.bigSep_erase' ((mem_ownCells (g := sCell d (coreOf L) (subOf L))).mpr ⟨rfl, by
      show (SemLoc.dma cc0_scratch1.sem : SemLoc sig).isScoped .scVector = true; decide⟩)]

/-- and its scratch row is among its subcore's own buffers. -/
theorem ownBufs_V :
    (ownBufs (thr d L) : sProp 𝕄)
      = iprop((∃ f, sLoc d L ↦{fullShare} f)
          ∗ bigSep ((ownRefs (τ := τ) (.scVector (coreOf L) (subOf L))).erase ((Proc.scVector (coreOf L) (subOf L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (coreOf L) (subOf L))
    (b := (Proc.scVector (coreOf L) (subOf L)).devRef cc0_scratch0) rfl)

theorem tilePts_list (f : Buf (Elt F) (cLoc d)) :
    tilePts d f (L 0).val (L 1).val ⊢ iprop(runPts (F := F) d f (L 0).val (L 1).val 0 ∗ runPts (F := F) d f (L 0).val (L 1).val 1
      ∗ runPts (F := F) d f (L 0).val (L 1).val 2 ∗ runPts (F := F) d f (L 0).val (L 1).val 3 ∗ runPts (F := F) d f (L 0).val (L 1).val 4
      ∗ runPts (F := F) d f (L 0).val (L 1).val 5 ∗ runPts (F := F) d f (L 0).val (L 1).val 6 ∗ runPts (F := F) d f (L 0).val (L 1).val 7) := by
  rw [tilePts, show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  exact BI.Entails.refl _

set_option maxHeartbeats 4000000 in
/-- The task on subcore `(L 0, L 1)` of device `d`: its runs of the counts in, the same runs at the count out. -/
theorem tile_body (m : (ℓ : Loc nD τ sig) → Buf (Elt F) ℓ) (hF : (K (F := F)).Facts) (O : CellTallies nD τ sig (HIx 1))
    (W : Waits sig (HIx 1)) (hO : ∀ g, O g none = 0) :
    iprop(levAts (K (F := F)).L (K (F := F)).lev ∗ emp ∗ tilePts d (m (cLoc d)) (L 0).val (L 1).val
        ∗ scopedBufs (thr d L) ∗ scopedSems0 (thr d L) ∗ owes (thr d L) O W)
      ⊢ wp frame (wpE (defs₀ (F := F)) 𝒱₀ (thr d L) none) Set.univ
          (cc0__sc_cnt_body L cV (Memref.isWhole_whole _) sV (Memref.isWhole_whole _) cc0_scratch1)
          fun _ => iprop(tilePts d (counts d) (L 0).val (L 1).val
            ∗ scopedBufs (thr d L) ∗ scopedSems0 (thr d L)
            ∗ ∃ W', ⌜∀ p ∈ W', p ∈ W ∨ p.2 = none ∨ p.2 = some 0⌝ ∗ owes (thr d L) O W') := by
  simp only [cc0__sc_cnt_body_eq_skeleton]
  unfold cc0__sc_cnt_body_skel
  rw [k0_part1_eq_skeleton]
  unfold k0_part1_skel
  simp only [bind_assoc]
  rw [(K (F := F)).scopedBufs_V hF d (coreOf L) (subOf L), SparseCore.Cfg.scopedSems0_V (Val := Elt F) d (coreOf L) (subOf L), ownSems0_V, ownBufs_V]
  iintro ⟨#Hlv, -, Hc, ⟨⟨%f, Hs⟩, Hbufs⟩, ⟨Hsem, Hsems⟩, HO⟩
  ihave Hmw := (show levAts (K (F := F)).L (K (F := F)).lev ⊢ Transfers.MayWaits (thr d L) (default : HIx 1) O from
    (K (F := F)).mayWaits_none (thr := thr d L) hO) $$ Hlv
  ihave Hc := (tilePts_list d L (m (cLoc d))) $$ Hc
  icases Hc with ⟨H0, H1, H2, H3, H4, H5, H6, H7⟩
  -- the sum of the pattern
  sl_for (fun k acc => iprop(⌜acc = BitVec.ofNat 32 (k / 2)⌝)) $$ []
  · intro k acc; exact sum_trip d L k acc
  · ipureintro; rfl
  iintro %acc %hacc
  have hacc : acc = 4#32 := hacc
  subst hacc
  -- the scratch row filled
  sl_for (fun k _ => filled (F := F) d L (128 * k)) $$ [Hs]
  · intro k _; exact fill_trip d L k
  · unfold filled
    iexists f
    isplitr
    · ipureintro; intro x hx; omega
    · iexact Hs
  iintro %_ Hs
  ihave Hs := (show filled (F := F) d L (128 * Scf.trips k0_t2_loop.lb k0_t2_loop.ub k0_t2_loop.st) ⊢ _ from filled_all d L) $$ Hs
  ihave Hs := (Entails.of_eq (show ((sV).view.loc (thr d L) ↦{fullShare} row (F := F) d L : sProp 𝕄)
    = (sV).view.loc (thr d L) ↦[(sV).view.set]{left 0} row (F := F) d L by rw [show (sV).view.set = Finset.univ from View.set_whole _]; rfl)) $$ Hs
  imod (Transfers.batch_alloc' (Lvl := ℕ) countersEmb (thr d L) (default : HIx 1) (units L) (back (F := F) d L)
    (sm := SemLoc.dma cc0_scratch1.sem) (E := Set.univ)) $$ Hsem with HB
  iapply (issue d L 0 (m (cLoc d))) $$ [Hs H0 HB]
  · isplitl [Hs]; · iexact Hs
    isplitl [H0]; · iexact H0
    iexact HB
  iintro ⟨Hs, HB⟩
  iapply (issue d L 1 (m (cLoc d))) $$ [Hs H1 HB]
  · isplitl [Hs]; · iexact Hs
    isplitl [H1]; · iexact H1
    iexact HB
  iintro ⟨Hs, HB⟩
  iapply (issue d L 2 (m (cLoc d))) $$ [Hs H2 HB]
  · isplitl [Hs]; · iexact Hs
    isplitl [H2]; · iexact H2
    iexact HB
  iintro ⟨Hs, HB⟩
  iapply (issue d L 3 (m (cLoc d))) $$ [Hs H3 HB]
  · isplitl [Hs]; · iexact Hs
    isplitl [H3]; · iexact H3
    iexact HB
  iintro ⟨Hs, HB⟩
  iapply (issue d L 4 (m (cLoc d))) $$ [Hs H4 HB]
  · isplitl [Hs]; · iexact Hs
    isplitl [H4]; · iexact H4
    iexact HB
  iintro ⟨Hs, HB⟩
  iapply (issue d L 5 (m (cLoc d))) $$ [Hs H5 HB]
  · isplitl [Hs]; · iexact Hs
    isplitl [H5]; · iexact H5
    iexact HB
  iintro ⟨Hs, HB⟩
  iapply (issue d L 6 (m (cLoc d))) $$ [Hs H6 HB]
  · isplitl [Hs]; · iexact Hs
    isplitl [H6]; · iexact H6
    iexact HB
  iintro ⟨Hs, HB⟩
  iapply (issue d L 7 (m (cLoc d))) $$ [Hs H7 HB]
  · isplitl [Hs]; · iexact Hs
    isplitl [H7]; · iexact H7
    iexact HB
  iintro ⟨Hs, HB⟩
  iapply (await d L 0 0 (by decide)) $$ [HB HO]
  · isplitl [HB]; · iexact HB
    isplitl [HO]; · iexact HO
    iapply (Transfers.MayWaits.elim (SemLoc.dma cc0_scratch1.sem)) $$ Hmw
  iintro ⟨HB, HO⟩
  iapply (await d L 1 1 (by decide)) $$ [HB HO]
  · isplitl [HB]; · iexact HB
    isplitl [HO]; · iexact HO
    iapply (Transfers.MayWaits.elim (SemLoc.dma cc0_scratch1.sem)) $$ Hmw
  iintro ⟨HB, HO⟩
  iapply (await d L 2 2 (by decide)) $$ [HB HO]
  · isplitl [HB]; · iexact HB
    isplitl [HO]; · iexact HO
    iapply (Transfers.MayWaits.elim (SemLoc.dma cc0_scratch1.sem)) $$ Hmw
  iintro ⟨HB, HO⟩
  iapply (await d L 3 3 (by decide)) $$ [HB HO]
  · isplitl [HB]; · iexact HB
    isplitl [HO]; · iexact HO
    iapply (Transfers.MayWaits.elim (SemLoc.dma cc0_scratch1.sem)) $$ Hmw
  iintro ⟨HB, HO⟩
  iapply (await d L 4 4 (by decide)) $$ [HB HO]
  · isplitl [HB]; · iexact HB
    isplitl [HO]; · iexact HO
    iapply (Transfers.MayWaits.elim (SemLoc.dma cc0_scratch1.sem)) $$ Hmw
  iintro ⟨HB, HO⟩
  iapply (await d L 5 5 (by decide)) $$ [HB HO]
  · isplitl [HB]; · iexact HB
    isplitl [HO]; · iexact HO
    iapply (Transfers.MayWaits.elim (SemLoc.dma cc0_scratch1.sem)) $$ Hmw
  iintro ⟨HB, HO⟩
  iapply (await d L 6 6 (by decide)) $$ [HB HO]
  · isplitl [HB]; · iexact HB
    isplitl [HO]; · iexact HO
    iapply (Transfers.MayWaits.elim (SemLoc.dma cc0_scratch1.sem)) $$ Hmw
  iintro ⟨HB, HO⟩
  iapply (await_last d L 7) $$ [HB HO]
  · isplitl [HB]; · iexact HB
    isplitl [HO]; · iexact HO
    iapply (Transfers.MayWaits.elim (SemLoc.dma cc0_scratch1.sem)) $$ Hmw
  iintro ⟨HB, Hsem, HO⟩
  ihave Hall := (back_all d L) $$ [HB Hs]
  · isplitl [HB]; · iexact HB
    iexact Hs
  icases Hall with ⟨Hc, Hs⟩
  dsimp only [Prog.bind]
  sl_step
  isplitl [Hc]; · iexact Hc
  isplitl [Hs Hbufs]
  · isplitl [Hs]
    · iexists row (F := F) d L
      iapply (Entails.of_eq (show ((sV).view.loc (thr d L) ↦[(sV).view.set]{fullShare} row (F := F) d L : sProp 𝕄)
        = sLoc d L ↦{fullShare} row (F := F) d L by rw [show (sV).view.set = Finset.univ from View.set_whole _])) $$ Hs
    · iexact Hbufs
  isplitl [Hsem Hsems]
  · isplitl [Hsem] <;> iassumption
  iexists _; isplitr
  swap; · iexact HO
  ipureintro
  intro p hp
  simp only [Finset.mem_insert] at hp
  rcases hp with hp | hp | hp | hp | hp | hp | hp | hp | hp
  case inr.inr.inr.inr.inr.inr.inr.inr => exact .inl hp
  all_goals exact .inr (.inl (hp ▸ rfl))

/-! ## The call's obligation -/

/-- The coordinates of a subcore's task. -/
def coordsOf (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_cnt_body (coordsOf c s)
          cV (Memref.isWhole_whole _) sV (Memref.isWhole_whole _) cc0_scratch1) ⟨⟩ c s := rfl

set_option maxRecDepth 16384 in
theorem tileObl (m : (ℓ : Loc nD τ sig) → Buf (Elt F) ℓ) (hF : (K (F := F)).Facts) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsOf ⟨_, hci.1⟩ ⟨_, hci.2⟩) m hF O W hO

end Cert.Proof.Count

end
-- ==== Proof.Region.lean ====
/-
  The TensorCore's part: a pipeline over eight blocks of 2048 rows of the second result (`main_v1`), each block filled
  with one number. The kernel picks row 0 of the pattern `j mod 2` by a maximum over the block's rows; that number is 0.
-/
module

public import proofs.«01_k».proof.Proof.Setup
public import Idealize.ShloMosaic.Lib.Pipeline.ValueKit
public import Idealize.ShloMosaic.Lib.Pipeline.Regions
public import Idealize.ShloMosaic.Lib.VecWindow
public import Idealize.ShloMosaic.PureOps.Reduce

@[expose] public section

noncomputable section

namespace Cert.Proof.Count

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-! ## The number stored -/

/-- A maximum of zeros, from the least word, over at least one element. -/
theorem fold_zero {α : Type} (s : Finset α) (hs : s.Nonempty) :
    s.fold IKind.maxsi.op (2147483648#32) (fun _ => 0#32) = 0#32 := by
  classical
  induction hs using Finset.Nonempty.cons_induction with
  | singleton a => rw [Finset.fold_singleton]; decide
  | cons a s h _ ih => rw [Finset.fold_cons, ih]; decide

/-- The row the kernel selects: zero at the first row (the remainder of 0), zero by the mask elsewhere. -/
theorem masked_zero (n : BitVec 32) :
    Scalar.select (IntOp.cmpi .eq n 0#32) (IntOp.remsi .vector (IntOp.addi n 0#32) 2#32) 0#32 = 0#32 := by
  by_cases h : n = 0#32
  · subst h; decide
  · unfold Scalar.select IntOp.cmpi
    rw [if_neg]
    show ¬ BitVec.ofBool (n == 0#32) = 1#1
    rw [beq_false_of_ne h]; decide

/-- The block stored: the number 0 at every place. -/
theorem pay_zero : (k1_pay1 (F := F)) = fun _ => zero := by
  have hsel : (select (cmpi .eq (iota .tc S2048x128 32 [0] iota_S2048x128_d0_w32) (broadcast S2048x128 0#32))
      (remsi (addi (iota .tc S2048x128 32 [0] iota_S2048x128_d0_w32) (broadcast S2048x128 0#32)) (broadcast S2048x128 2#32))
      (broadcast S2048x128 0#32) : IVec S2048x128 32) = fun _ => 0#32 := funext fun x => masked_zero _
  have hmax (hacc : 2147483648#32 = IKind.maxsi.neutral) : (multiReductionI .maxsi [0] S128 (fun _ : S2048x128.Idx => 0#32) 2147483648#32 reduces_S2048x128_S128 hacc : IVec S128 32)
      = fun _ => 0#32 := by
    funext j
    refine (multiReductionI_eq_fold _ _ _ _ _ _).trans ?_
    refine fold_zero _ ⟨fun a => match a with | 0 => ⟨0, by decide⟩ | 1 => ⟨(j 0).val, (j 0).isLt⟩, ?_⟩
    rw [Finset.mem_filter]
    refine ⟨Finset.mem_univ _, funext fun b => Fin.ext ?_⟩
    match b with
    | 0 => rw [reduces_S2048x128_S128.drop_apply_val_of_eq _ 0 1]
  have hsto (v : IVec S128 32) (hv : v = fun _ => 0#32) :
      (sitofp .f32 (broadcastTo S2048x128 (shapeCast S1x128 (shapeCast S1x128 v shapeCasts_S128_S1x128) shapeCasts_S1x128_S1x128)
        broadcasts_S1x128_S2048x128) : FVec F S2048x128 .f32) = fun _ => zero := by
    subst hv
    rfl
  unfold k1_pay1
  dsimp only
  rw [hsel]
  exact hsto _ (hmax rfl)

/-! ## The body -/

theorem body_run (c : Dev nD) (i : grid1.Coords) (M : Memref sig .tc .vmem S2048x128 .f32) (hM : M.IsWhole) (X : S2048x128.Idx → Elt F .f32) :
    (owns (c : Thread nD τ) M fullShare X : sProp 𝕄)
      ⊢ wp frame (wpE (defs₀ (F := F)) 𝒱₀ (c : Thread nD τ) none) Set.univ (cc1__tc_out_body i M hM)
          fun _ => owns (c : Thread nD τ) M fullShare fun _ => zero := by
  rw [cc1__tc_out_body_eq_skeleton]
  unfold cc1__tc_out_body_skel
  rw [pay_zero]
  unfold owns
  iintro ⟨%f, -, H⟩
  sl_exec
  sl_step
  iexists _
  isplitr
  swap; · iexact H
  ipureintro
  exact View.read_writes_full _ _ _ _ _

/-! ## The pipeline -/

variable (m : (ℓ : Loc nD τ sig) → Buf (Elt F) ℓ)

/-- The second result as it ends: the number 0 everywhere. -/
def zeros (d : Dev nD) : Buf (Elt F) (oLoc d) := fun _ => zero (F := F)

/-- The pipeline's data: the array as launched, every block left at 0, nothing owed; the pairs recorded stay at or below
    the level the SparseCore call left them at. -/
def dats (_ : Fin 1) (c : Dev nD) : Dat τ (Elt F) (HIx 1) ℕ UU ℕ cfg1 c where
  A w := match w with | ⟨0, _⟩ => m (oLoc c)
  after w _ := match w with | ⟨0, _⟩ => fun _ => zero (F := F)
  Φ _ := iprop(emp)
  q _ := fullShare
  owed _ := 0
  recorded _ := {p | (K (F := F)).lev ((c : Thread nD τ), p.1) p.2 ≤ 8}

theorem body_obligation (c : Dev nD) : BodyObligation (dats (F := F) m 0 c) (defs₀ (F := F)) 𝒱₀ (none : HIx 1) Set.univ := fun t => by
  rw [bigSep_W1, bigSep_W1]
  iintro ⟨HΦ, HO, ⟨%X, H⟩⟩
  iapply (wp_wand_r frame _ Set.univ)
  isplitl [H]
  · iapply (body_run c (grid1.coords t) (win1_0.stage (cfg1.slots t 0)) (hstage1_0 ((cfg1.slots t 0).cast nbuf1_0)) _)
    iexact H
  iintro %_ H
  rw [show (dats (F := F) m 0 c).Φ t.succ = (dats (F := F) m 0 c).Φ t.castSucc from rfl,
    show (dats (F := F) m 0 c).owesAt (none : HIx 1) t.succ = (dats (F := F) m 0 c).owesAt (none : HIx 1) t.castSucc from rfl]
  isplitl [HΦ]; · iexact HΦ
  isplitl [HO]; · iexact HO
  iexact H

/-- The eight blocks, each written back, fill the array. -/
theorem arr_final (c : Dev nD) : (dats (F := F) m 0 c).arrAt 0 cfg1.N = zeros (F := F) c := by
  refine (dats (F := F) m 0 c).arrAt_eq_of_covers 0 (zeros (F := F) c) (by decide +kernel) fun t _ y => ?_
  rfl

abbrev adm : (p : Fin 1) → (pcfgs (F := F) p).Adm := fun p => (cfgs p).toPCfg_adm

theorem arrays_one (c : Dev nD) (G : (w : Fin cfg1.W) → Buf (Elt F) ((cfg1.win w).arr.view.loc (c : Thread nD τ))) :
    ((dats (F := F) m 0 c).arrays G : sProp 𝕄) = (oLoc c ↦{fullShare} G 0) :=
  (Pipeline.arrays_eq (Pipeline.pin (pcfgs (F := F)) adm) (dats (F := F) m) 0 c launch1.arr_whole (fun w => (dats m 0 c).share_full (fun _ => rfl) w) G).trans (bigSep_W1 _)

/-- The region: entered with the array as launched and nothing owed, left with the array at 0 and nothing owed. -/
def region : Pipeline.RegionSeg (pcfgs (F := F)) adm (dats m) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation m c).loose
  hwaits := Pipeline.hwaits_of_owed_zero _ _ _ _ _ _ 0 fun _ _ => rfl
  pre c := iprop((oLoc c ↦{fullShare} m (oLoc c)) ∗ ∃ W, ⌜(K (F := F)).WBelow (SparseCore.T c) W 8⌝ ∗ owes (SparseCore.T c) 0 W)
  post c := iprop((oLoc c ↦{fullShare} zeros c) ∗ ∃ W, ⌜(K (F := F)).WBelow (SparseCore.T c) W 8⌝ ∗ owes (SparseCore.T c) 0 W)
  X _ := iprop(emp)
  Y _ := iprop(emp)
  Z _ := iprop(emp)
  hentry c := by
    rw [arrays_one]
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Dat.owesAt Pipeline.owesWithin
      iexists W
      isplitr; · ipureintro; exact fun p hp => Or.inl (hW p hp)
      iexact HO
    isplitl <;> iempintro
  hin c := by
    iintro -
    iempintro
  hout c := by
    rw [Pipeline.ownSems0_none, scopedRest1_eq]
    iintro -
    isplitl; · iempintro
    isplitl <;> iempintro
  hexit c := by
    rw [arrays_one]
    unfold Dat.owesAt Pipeline.owesWithin
    iintro ⟨Ha, ⟨%W, %hW, HO⟩, -, -⟩
    imodintro
    isplitl [Ha]; · rw [← arr_final m c]; iexact Ha
    iexists W
    isplitr
    · ipureintro
      intro p hp
      rcases hW hp with h | ⟨w, s, h⟩
      · exact h
      · rw [h]; exact Nat.zero_le _
    iexact HO

end Cert.Proof.Count

end
-- ==== Proof.Main.lean ====
/-
  @main on the TensorCore and the program's run: the SparseCore call fills the flat counts, the pipeline fills the second
  result, the last operation reads the flat counts as 16384 rows of 128. Stated once over every float interpretation, so
  the frames and the values are read off the same run.
-/
module

public import proofs.«01_k».proof.Proof.Tile
public import proofs.«01_k».proof.Proof.Region

@[expose] public section

noncomputable section

namespace Cert.Proof.Count

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state at launch -/

/-- What the pipeline's region consumes of the ghost state: its cells and its transfers' tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

omit [FloatOps F] in
theorem nothing_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb embR _ _) $$ HR
  icases H with ⟨HP, -⟩
  ihave H := (Pipeline.fund_ghost (Pipeline.pin (pcfgs (F := F)) adm) EP cellOf_inj) $$ HP
  imod H with ⟨Hc, Ht⟩
  imodintro
  isplitl [HH]; · iexact HH
  isplitl [Hc Ht]
  · rw [bigSep_sep']
    isplitl [Hc]
    · rw [show (bigSep Finset.univ fun d : Dev nD => Pipeline.cellsGhost (Pipeline.pin (pcfgs (F := F)) adm) EP 0 d : sProp 𝕄)
        = bigSep Finset.univ fun d : Dev nD => bigSep Finset.univ fun p : Fin 1 => Pipeline.cellsGhost (Pipeline.pin (pcfgs (F := F)) adm) EP p d from
          bigSep_congr fun d _ => (bigSep_univ_of_subsingleton (0 : Fin 1) (Φ := fun p => Pipeline.cellsGhost (Pipeline.pin (pcfgs (F := F)) adm) EP p d)).symm]
      iexact Hc
    · rw [show (bigSep Finset.univ fun d : Dev nD => Pipeline.toksInit (Pipeline.pin (pcfgs (F := F)) adm) EP 0 d : sProp 𝕄)
        = bigSep Finset.univ fun d : Dev nD => bigSep Finset.univ fun p : Fin 1 => Pipeline.toksInit (Pipeline.pin (pcfgs (F := F)) adm) EP p d from
          bigSep_congr fun d _ => (bigSep_univ_of_subsingleton (0 : Fin 1) (Φ := fun p => Pipeline.toksInit (Pipeline.pin (pcfgs (F := F)) adm) EP p d)).symm]
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing_all]
  iempintro

/-! ## The pipeline's region in @main -/

theorem region_run [∀ e, Nonempty (Elt F e)] (d : Dev nD) (Q : PUnit → sProp 𝕄) :
    iprop(boundary (SparseCore.T d) ∗ (region (F := F) m).pre d ∗ levAts (K (F := F)).L (K (F := F)).lev ∗ G (F := F) d
        ∗ ((boundary (SparseCore.T d) ∗ (region (F := F) m).post d) -∗ Q ⟨⟩))
      ⊢ wp frame (wpE ((K (F := F)).defs (D (F := F))) 𝒱 (SparseCore.T d) none) Set.univ
          (Prog.lift (.customCall (SparseCore.inner (Pipeline.entry 0)) ())) Q := by
  iintro ⟨Hb, Hpre, Hlev, ⟨Hc, Ht⟩, Hk⟩
  iapply ((K (F := F)).wp_liftProg (D (F := F)) 𝒱 (SparseCore.T d) Set.univ none
    (.op (.customCall (Pipeline.entry 0) ()) fun a => .ret a) Q)
  iapply (Pipeline.RegionSeg.wp (pcfgs (F := F)) adm (dats m) (none : HIx 1) cellOf_inj EP defs₀ 𝒱₀ (K (F := F)).L (K (F := F)).lev
    (region m) d none (fun _ h => nomatch h) (fun a => .ret a) Q)
  isplitl [Hk]
  · iintro H
    rw [wp_ret]
    imodintro
    iapply Hk
    iexact H
  isplitl [Hb]; · iexact Hb
  isplitl [Hpre]; · iexact Hpre
  isplitl [Hlev]; · iexact Hlev
  isplitl [Hc] <;> iassumption

/-! ## The host operation after it -/

abbrev v0' : DevRef τ sig := Proc.devRef .tc main_v0
abbrev v2' : DevRef τ sig := Proc.devRef .tc main_v2
abbrev opR : HloOp τ sig (Elt F) := StableHlo.reshape main_v0 main_v2 (rfl : (.f32 : EltTy) = .f32) shapeCasts_S2097152_S16384x128

/-- The buffers as the operation finds them: the counts in place, the rest as launched. -/
def V (d : Dev nD) : Valuation τ sig (Elt F) := Function.update (fun b => m (d, b)) v0' (counts (F := F) d)

theorem V_v0 (d : Dev nD) : V m d v0' = counts (F := F) d := Function.update_self _ _ _
theorem V_v2 (d : Dev nD) : V m d v2' = m (rLoc d) := Function.update_of_ne (show v2' ≠ v0' by decide) _ _

/-- The first result as it ends: the count everywhere. -/
def fours (d : Dev nD) : Buf (Elt F) (rLoc d) := fun _ => four (F := F)

theorem held_two (d : Dev nD) (W : Valuation τ sig (Elt F)) :
    (held (SparseCore.T d) {v0', v2'} W : sProp 𝕄) = iprop((cLoc d ↦{fullShare} W v0') ∗ rLoc d ↦{fullShare} W v2') := by
  unfold held
  rw [SparseCore.bigSep_insert' (by decide), bigSep_singleton]

theorem reshaped (d : Dev nD) : (opR (F := F)).result (V m d) v2' = fours (F := F) d := by
  rw [show opR (F := F) = StableHlo.reshape main_v0 main_v2 (rfl : (.f32 : EltTy) = .f32) shapeCasts_S2097152_S16384x128 from rfl, StableHlo.reshape_result]
  funext i
  show shapeCast S16384x128 (V m d v0') _ i = _
  rw [V_v0]
  rfl

theorem bufs_two : (opR (F := F)).bufs ⊆ {v0', v2'} := show ({v0', v2'} : Finset (DevRef τ sig)) ⊆ {v0', v2'} by decide

/-! ## @main -/

theorem unscopedBufs_eq (d : Dev nD) (W : (b : Ref sig .tc) → Buf (Elt F) ((d.tc : Thread nD τ).loc b)) :
    (unscopedBufs d W : sProp 𝕄) = iprop((aLoc d ↦{fullShare} W main_arg0) ∗ (cLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c) = (cLoc d ↦{fullShare} m (cLoc d) : sProp 𝕄) :=
  (cPts_cores d (m (cLoc d))).symm
theorem dn0_eq (d : Dev nD) : (bigSep Finset.univ fun c : Fin ((K (F := F)).nCore 0) => (P m).dn 0 d c) = (cLoc d ↦{fullShare} counts d : sProp 𝕄) :=
  (cPts_cores d (counts d)).symm

/-- After the one call the TensorCore owes nothing. -/
theorem Otc_one (d : Dev nD) : (K (F := F)).Otc d 1 = 0 := by
  unfold SparseCore.Cfg.Otc
  refine Finset.sum_eq_zero fun q _ => if_neg ?_
  have := q.isLt
  omega

/-- What @main leaves: the argument as launched and the two results. -/
abbrev FIN (d : Dev nD) : sProp 𝕄 :=
  iprop((aLoc d ↦{fullShare} m (aLoc d)) ∗ (oLoc d ↦{fullShare} zeros d) ∗ rLoc d ↦{fullShare} fours d)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hc, Ho, Hr⟩, Hts, -⟩, HG⟩
  iapply ((K (F := F)).wp_run (D (F := F)) 𝒱 (EH := EH) (P := P m) κ d 0) $$ [Hst Ha Hc Ho Hr Hb Hts HG]
  isplitr; · iexact Hctx
  isplitl [Hst]; · iexact Hst
  isplitl [Hc]; · rw [st0_eq]; iexact Hc
  rw [dn0_eq, show ((0 : Fin 1).val + 1) = 1 from rfl]
  unfold SparseCore.Cfg.tcSt
  rw [Otc_one]
  iintro ⟨⟨HO, Hst⟩, Hc⟩
  ihave #Hlev := (SparseCore.Cfg.ctx_levAts κ) $$ Hctx
  iapply (region_run m d)
  isplitl [Hb]; · iexact Hb
  isplitl [Ho HO]
  · rw [show (region (F := F) m).pre d = iprop((oLoc d ↦{fullShare} m (oLoc d))
      ∗ ∃ W, ⌜(K (F := F)).WBelow (SparseCore.T d) W 8⌝ ∗ owes (SparseCore.T d) 0 W) from rfl]
    isplitl [Ho]; · iexact Ho
    iexact HO
  isplitr; · iexact Hlev
  isplitl [HG]; · iexact HG
  rw [show (region (F := F) m).post d = iprop((oLoc d ↦{fullShare} zeros d)
    ∗ ∃ W, ⌜(K (F := F)).WBelow (SparseCore.T d) W 8⌝ ∗ owes (SparseCore.T d) 0 W) from rfl]
  iintro ⟨Hb, Ho, HO⟩
  iapply (wp_hlo_within 𝒱 (SparseCore.T d) none Set.univ (op := opR) (S := {v0', v2'}) bufs_two (V := V m d)) $$ [Hb Hc Hr]
  · isplitl [Hb]; · iexact Hb
    rw [held_two, V_v0, V_v2]
    isplitl [Hc] <;> iassumption
  rw [held_two, reshaped]
  iintro ⟨Hb, -, Hr⟩
  rw [wp_ret]; imodintro; imodintro
  isplitl [HO Hst]
  · isplitl [HO]; · iexact HO
    iexact Hst
  isplitl [Ha Ho Hr]
  · isplitl [Ha]; · iexact Ha
    isplitl [Ho] <;> iassumption
  isplitl [Hb] <;> iassumption

/-! ## The program's run -/

def fq (d : Dev nD) (s' : Phys nD τ sig (Elt F)) : Prop :=
  s'.mem.mem (aLoc d) = m (aLoc d) ∧ s'.mem.mem (oLoc d) = zeros d ∧ s'.mem.mem (rLoc d) = fours d

/-- A buffer held whole is what the memory holds. -/
theorem mem_of_held (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr [HSI]
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Ha, Ho, Hr⟩, HSI⟩
  ihave H := (mem_of_held s' (aLoc d) (m (aLoc d))) $$ [Ha HSI]
  · isplitl [Ha] <;> iassumption
  icases H with ⟨%h1, HSI⟩
  ihave H := (mem_of_held s' (oLoc d) (zeros d)) $$ [Ho HSI]
  · isplitl [Ho] <;> iassumption
  icases H with ⟨%h2, HSI⟩
  ihave H := (mem_of_held s' (rLoc d) (fours d)) $$ [Hr HSI]
  · isplitl [Hr] <;> iassumption
  icases H with ⟨%h3, -⟩
  ipureintro; exact ⟨h1, h2, h3⟩

/-- What a run leaves: the argument as launched, the two results at their constants, no counter up. -/
def QC : PUnit × MemSt nD τ sig (Elt F) → Prop := fun r =>
  (∀ c : Dev nD, r.2.mem (aLoc c) = m (aLoc c) ∧ r.2.mem (oLoc c) = zeros c ∧ r.2.mem (rLoc c) = fours c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Cert.Proof.Count

end
-- ==== Proof.Reference.lean ====
/-
  The reference's two results, over the extended reals. Its register file holds i mod 2 in register i; the first result
  is register 0, so zero everywhere, and the second the sum of the eight registers, so four everywhere.
-/
module

public import proofs.«01_k».proof.Proof.Gen.ReferenceIdeal.Run
public import Idealize.ShloMosaic.Lib.IdealHost
public import Idealize.ShloMosaic.Lib.Pointwise.Reduce
public import Idealize.ShloMosaic.Lib.Pointwise.Reshape
public import Idealize.ShloMosaic.Lib.Pipeline.Value

@[expose] public section

noncomputable section

namespace Cert.Proof.Registers

open Cert.ReferenceIdeal Cert.ReferenceIdeal.Gen

open Idealize.ShloMosaic Idealize.ShloMosaic.TcCoe Idealize.SL.Sem

/-- The truncated remainders of 0, …, 7 by 2, as the program computes them. -/
abbrev rems : FVec Ideal S8 .f32 :=
  Host.remf (sitofp .f32 (iotaInDim S8 32 0)) (broadcastInDim S8 ![] bcast_S_S8 (sitofp .f32 (constantI S_ 32 2#32)))

/-- The remainders after the program's correction of the sign, 2 added where the remainder and 2 differ in sign. -/
def pattern : FVec Ideal S8 .f32 :=
  select (andi (cmpi .ne (cmpf .olt rems (broadcastInDim S8 ![] bcast_S_S8 (constant S_ .f32 0x00000000#32)))
        (broadcastInDim S8 ![] bcast_S_S8 (cmpf .olt (sitofp .f32 (constantI S_ 32 2#32) : FVec Ideal S_ .f32) (constant S_ .f32 0x00000000#32))))
      (cmpf .une rems (broadcastInDim S8 ![] bcast_S_S8 (constant S_ .f32 0x00000000#32))))
    (addf rems (broadcastInDim S8 ![] bcast_S_S8 (sitofp .f32 (constantI S_ 32 2#32)))) rems

/-- The register file: the pattern, each value over a whole register. -/
def regs : FVec Ideal S8x16384x128 .f32 :=
  broadcastInDim S8x16384x128 ![0, 1, 2] bcast_S8x1x1_S8x16384x128_0_1_2 (shapeCast S8x1x1 pattern shapeCasts_S8_S8x1x1)

/-- The remainder of a natural number by 2 over the reals is its remainder. -/
theorem rem_two (k : ℕ) : Ideal.remf (((k : ℤ) : ℝ) : EReal) (((2 : ℤ) : ℝ) : EReal) = (((k % 2 : ℕ) : ℝ) : EReal) := by
  obtain ⟨q, r, hr, rfl⟩ : ∃ q r : ℕ, r < 2 ∧ k = 2 * q + r := ⟨k / 2, k % 2, Nat.mod_lt _ (by decide), (Nat.div_add_mod k 2).symm⟩
  rw [show (2 * q + r) % 2 = r by omega]
  have h0 : (0 : ℝ) ≤ r := Nat.cast_nonneg _
  have h2 : (r : ℝ) < 2 := by exact_mod_cast hr
  have hfl : Ideal.truncInt ((((2 * q + r : ℕ) : ℤ) : ℝ) / ((2 : ℤ) : ℝ)) = (q : ℤ) := by
    unfold Ideal.truncInt
    rw [if_pos (by positivity), Int.floor_eq_iff]
    push_cast
    constructor <;> linarith
  show (if (((2 : ℤ) : ℝ)) = 0 then (⊥ : EReal) else _) = _
  rw [if_neg (by norm_num), hfl]
  congr 1
  push_cast
  ring

theorem rems_at (j : S8.Idx) : rems j = ((((j 0).val % 2 : ℕ) : ℝ) : EReal) := by
  have hj : (j 0).val < 8 := (j 0).isLt
  show Ideal.remf (((BitVec.ofNat 32 (j 0).val).toInt : ℝ) : EReal) (((2#32).toInt : ℝ) : EReal) = _
  rw [show (BitVec.ofNat 32 (j 0).val).toInt = ((j 0).val : ℤ) by
    rw [BitVec.toInt_eq_toNat_of_lt] <;> simp [BitVec.toNat_ofNat] <;> omega, show (2#32).toInt = 2 by decide]
  exact rem_two _

/-- No remainder is negative, so the correction changes none. -/
theorem pattern_at (j : S8.Idx) : pattern j = ((((j 0).val % 2 : ℕ) : ℝ) : EReal) := by
  have hz : ∀ x : EReal, 0 ≤ x → FloatOps.cmpf (F := Ideal) (φ := .f32) .olt x (Ideal.ofBits .f32 0x00000000#32) = 0#1 := fun x hx => by
    show BitVec.ofBool (decide (x < Ideal.ofBits .f32 0x00000000#32)) = 0#1
    rw [Ideal.ofBits_zero_f32, decide_eq_false (not_lt.mpr hx)]; rfl
  have h1 := hz (rems j) (by rw [rems_at]; exact_mod_cast Nat.zero_le _)
  have h2 := hz (((2#32).toInt : ℝ) : EReal) (by rw [show (2#32).toInt = 2 by decide]; norm_num)
  show (if IntOp.andi (IntOp.cmpi .ne (FloatOps.cmpf (F := Ideal) (φ := .f32) .olt (rems j) (Ideal.ofBits .f32 0x00000000#32))
    (FloatOps.cmpf (F := Ideal) (φ := .f32) .olt (((2#32).toInt : ℝ) : EReal) (Ideal.ofBits .f32 0x00000000#32))) _ = 1#1 then _ else rems j) = _
  rw [h1, h2, rems_at]
  refine if_neg ?_
  exact (show ∀ b : BitVec 1, ¬ IntOp.andi (IntOp.cmpi .ne 0#1 0#1) b = 1#1 by decide) _

/-- Every element of register i is i mod 2. -/
theorem regs_at (j : S8x16384x128.Idx) : regs j = ((((j 0).val % 2 : ℕ) : ℝ) : EReal) := by
  unfold regs broadcastInDim
  rw [shapeCast_apply pattern shapeCasts_S8_S8x1x1 _ (ix1 (⟨(j 0).val, (j 0).isLt⟩ : Fin 8)) (by
    rw [rowMajor_val1, rowMajor_val3 _ 1 1 rfl rfl]; simp [ix1]), pattern_at]
  rfl

theorem first_result : shapeCast S16384x128 (extractStridedSlice S1x16384x128 ![0, 0, 0] regs slices_S8x16384x128_S1x16384x128_0_0_0)
    shapeCasts_S1x16384x128_S16384x128 = fun _ => (0 : EReal) := by
  funext j
  unfold shapeCast extractStridedSlice
  generalize Shape.reshapeEquiv shapeCasts_S1x16384x128_S16384x128 j = i
  rw [regs_at]
  have h : (i (Fin.cast slices_S8x16384x128_S1x16384x128_0_0_0.1.symm 0)).val < 1 := (i _).isLt
  have e : (![0, 0, 0] : Fin 3 → ℕ) 0 + (i (Fin.cast slices_S8x16384x128_S1x16384x128_0_0_0.1.symm 0)).val = 0 := by
    show 0 + _ = 0
    omega
  show (((((![0, 0, 0] : Fin 3 → ℕ) 0 + (i (Fin.cast slices_S8x16384x128_S1x16384x128_0_0_0.1.symm 0)).val) % 2 : ℕ) : ℝ) : EReal) = 0
  rw [e]
  simp

theorem second_result : Host.reduceAdd regs (constant S_ .f32 0x00000000#32) reducesTo_S8x16384x128_S16384x128_d0 h_S_
    = fun _ => ((4 : ℝ) : EReal) := by
  funext j
  rw [Host.reduceAdd_apply]
  show Ideal.hostReduceAdd _ regs (Ideal.ofBits .f32 0x00000000#32) j = _
  rw [Ideal.hostReduceAdd_r3_a0, Ideal.ofBits_zero_f32]
  simp only [regs_at]
  simp only [Fin.sum_univ_eight, ix3]
  simp only [← EReal.coe_add, zero_add]
  congr 1
  norm_num [Fin.val_ofNat]

/-- The reference's run: zero everywhere, four everywhere, and the argument as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = (fun _ => (0 : EReal))
      ∧ r.2.mem ((c.tc : Thread nD τ).loc main_v6) = (fun _ => ((4 : ℝ) : EReal))
      ∧ r.2.mem ((c.tc : Thread nD τ).loc main_arg0) = m ((c.tc : Thread nD τ).loc main_arg0) :=
  (θ_run defs _ _).mono (fun _ h c => ⟨(h c).1.trans first_result, (h c).2.1.trans second_result, (h c).2.2⟩)
    (Cert.ReferenceIdeal.Value.run (F := Ideal) m ρ)

end Cert.Proof.Registers

end
-- ==== Proof.lean ====
/-
  The certificate's proof. Both kernel frames and the kernel's side of the value claim come from the one run of Proof/Main.lean, the
  reference's side from Proof/Reference.lean; here they meet: zero everywhere and four everywhere over the reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Main
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- The run at the machine's words leaves the argument as launched and no counter up. -/
theorem frame_words (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (Cert.KernelIdeal.threads (F := Bits)) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run (Cert.KernelIdeal.defs (F := Bits)) _ _).mono (fun _ h => ⟨fun c => (h.1 c).1, h.2⟩) (Count.run_main (F := Bits) m ρ)

/-- Kernel and KernelIdeal have the same bodies, processor by processor and label by label. -/
theorem bodies_same : Cert.Kernel.defs₀ (F := Bits) = Cert.KernelIdeal.defs₀ (F := Bits) := by
  funext p l a
  match p, l, a with
  | .tc, 0, _ => rfl
  | .tc, 1, (_, _) => rfl
  | .scScalar _, 0, _ => rfl
  | .scScalar _, 1, _ => rfl
  | .scVector _ _, 0, _ => rfl
  | .scVector _ _, 1, _ => rfl

theorem tables_same : Cert.Kernel.defs (F := Bits) = Cert.KernelIdeal.defs (F := Bits) :=
  congrArg (fun D => Cert.KernelIdeal.sc.defs (Pipeline.defs Cert.KernelIdeal.pcfgs D)) bodies_same

/-- The kernel's frame: Kernel and KernelIdeal are one program, so the run is the same. -/
theorem frame_kernel : Cert.quiescent_Kernel := fun m ρ _ => by
  rw [tables_same]
  exact frame_words m ρ

/-- The frame of the kernel over the extended reals: the same run there. -/
theorem frame_kernelIdeal : Cert.quiescent_KernelIdeal := fun m ρ _ =>
  (θ_run (Cert.KernelIdeal.defs (F := Ideal)) _ _).mono (fun _ h => ⟨fun c => (h.1 c).1, h.2⟩) (Count.run_main (F := Ideal) m ρ)

/-- The reference's frame: no operation writes the argument, and the program has no semaphore. -/
theorem frame_reference : Cert.quiescent_ReferenceIdeal := fun m ρ _ =>
  (θ_run (Cert.ReferenceIdeal.defs (F := Ideal)) _ _).mono
    (fun r h => ⟨fun c => (h c).2.2, sem_eq_zero_of_no_sems (by decide) r.2⟩) (Registers.run m ρ)

/-- The vector unit's 0 is zero over the reals. -/
theorem zero_ideal : Count.zero (F := Ideal) = (0 : EReal) := by
  show (((0#32).toInt : ℝ) : EReal) = 0
  rw [show (0#32).toInt = 0 by decide]
  simp

/-- The scalar unit's 4 is four over the reals. -/
theorem four_ideal : Count.four (F := Ideal) = ((4 : ℝ) : EReal) := by
  show (((4#32).toInt : ℝ) : EReal) = _
  rw [show (4#32).toInt = 4 by decide]
  norm_num

/-- Both results agree over the reals: zero everywhere, four everywhere. -/
theorem results_agree : Cert.algebraic_KernelIdeal_ReferenceIdeal := fun m ρ m' ρ' _ _ =>
  ⟨fun c => Count.zeros c, fun c => Count.fours c,
    (θ_run (Cert.KernelIdeal.defs (F := Ideal)) _ _).mono (fun _ h c => ⟨(h.1 c).2.1, (h.1 c).2.2, (h.1 c).1⟩) (Count.run_main (F := Ideal) m ρ),
    (θ_run (Cert.ReferenceIdeal.defs (F := Ideal)) _ _).mono
      (fun _ h c => ⟨(h c).1.trans (funext fun _ => zero_ideal.symm), (h c).2.1.trans (funext fun _ => four_ideal.symm), (h c).2.2⟩)
      (Registers.run m' ρ')⟩

theorem claim : Cert.Claim := ⟨Cert.Kernel.Gen.facts, Cert.KernelIdeal.Gen.facts, Cert.ReferenceIdeal.Gen.facts,
  frame_kernel, frame_kernelIdeal, frame_reference, trivial, results_agree⟩

end Cert.Proof

end
